-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_full_and_finite [hPre_full_and_finite : Cert.Pre_full_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_full_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_full_and_finite [hPre_full_and_finite : Cert.Pre_full_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_full_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_full_and_finite [hKernelIdeal : Cert.KernelIdeal.Facts] [hPre_full_and_finite : Cert.Pre_full_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_full_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_full_and_finite [hReferenceIdeal : Cert.ReferenceIdeal.Facts] [hPre_full_and_finite : Cert.Pre_full_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_full_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_full_and_finite [hKernelIdeal : Cert.KernelIdeal.Facts] [hReferenceIdeal : Cert.ReferenceIdeal.Facts] [hPre_full_and_finite : Cert.Pre_full_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_full_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_full_and_finite : Cert.Pre_full_and_finite.Facts),
    quiescent_Kernel (hKernel := hKernel)
    ∧ quiescent_KernelIdeal (hKernelIdeal := hKernelIdeal)
    ∧ quiescent_KernelIdeal_pre_full_and_finite (hKernelIdeal := hKernelIdeal) (hPre_full_and_finite := hPre_full_and_finite)
    ∧ quiescent_ReferenceIdeal (hReferenceIdeal := hReferenceIdeal)
    ∧ quiescent_ReferenceIdeal_pre_full_and_finite (hReferenceIdeal := hReferenceIdeal) (hPre_full_and_finite := hPre_full_and_finite)
    ∧ preserves_Kernel_KernelIdeal
    ∧ algebraic_KernelIdeal_ReferenceIdeal_pre_full_and_finite (hKernelIdeal := hKernelIdeal) (hReferenceIdeal := hReferenceIdeal) (hPre_full_and_finite := hPre_full_and_finite)
-- ==== Pre_full_and_finite.lean ====
abbrev S32768x256 : Shape := ⟨2, ![32768, 256]⟩
abbrev S16 : Shape := ⟨1, ![16]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S32768x256 : S_.BroadcastsInDim S32768x256 (![] : Fin 0 → Fin S32768x256.rank)
  reducesTo_S32768x256_S_d0_1 : S32768x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_arg4 : FVec F S256x128 .f32) (main_arg6 : FVec F S128x1 .f32) (main_v12 : IVec S_ 1) (main_v15 : IVec S128 1) (main_c_5 : IVec S_ 1) : IVec S_ 1 :=
  let main_v16 : IVec S_ 1 := (fun x v => Host.reduce IntOp.andi x v reducesTo_S128_S_d0 h_S_) main_v15 main_c_5
  let main_v17 : IVec S_ 1 := andi main_v12 main_v16
  let main_v18 : FVec F S256x128 .f32 := Host.absf main_arg4
  let main_cst_6 : FVec F S_ .f32 := constant S_ .f32 0x7F800000#32
  let main_v19 : FVec F S256x128 .f32 := broadcastInDim S256x128 ![] bcast_S_S256x128 main_cst_6
  let main_v20 : IVec S256x128 1 := cmpf .olt main_v18 main_v19
  let main_c_7 : IVec S_ 1 := constantI S_ 1 1#1
  let main_v21 : IVec S_ 1 := (fun x v => Host.reduce IntOp.andi x v reducesTo_S256x128_S_d0_1 h_S_) main_v20 main_c_7
  let main_v22 : IVec S_ 1 := andi main_v17 main_v21
  let main_v23 : FVec F S128x1 .f32 := Host.absf main_arg6
  let main_cst_8 : FVec F S_ .f32 := constant S_ .f32 0x7F800000#32
  let main_v24 : FVec F S128x1 .f32 := broadcastInDim S128x1 ![] bcast_S_S128x1 main_cst_8
  let main_v25 : IVec S128x1 1 := cmpf .olt main_v23 main_v24
  let main_c_9 : IVec S_ 1 := constantI S_ 1 1#1
  let main_v26 : IVec S_ 1 := (fun x v => Host.reduce IntOp.andi x v reducesTo_S128x1_S_d0_1 h_S_) main_v25 main_c_9
  let main_v27 : IVec S_ 1 := andi main_v22 main_v26
  main_v27

def fn {F : FTy → Type} [FloatOps F] (main_arg0 : FVec F S32768x256 .f32) (main_arg1 : IVec S16 32) (main_arg2 : FVec F S256x128 .f32) (main_arg3 : FVec F S128 .f32) (main_arg4 : FVec F S256x128 .f32) (main_arg5 : FVec F S128 .f32) (main_arg6 : FVec F S128x1 .f32) (main_arg7 : FVec F S1 .f32) : IVec S_ 1 :=
  let main_c : IVec S_ 32 := constantI S_ 32 2048#32
  let main_v0 : IVec S16 32 := broadcastInDim S16 ![] bcast_S_S16 main_c
  let main_v1 : IVec S16 1 := cmpi .eq main_arg1 main_v0
  let main_c_0 : IVec S_ 1 := constantI S_ 1 1#1
  let main_v2 : IVec S_ 1 := (fun x v => Host.reduce IntOp.andi x v reducesTo_S16_S_d0 h_S_) main_v1 main_c_0
  let main_v3 : FVec F S32768x256 .f32 := Host.absf main_arg0
  let main_cst : FVec F S_ .f32 := constant S_ .f32 0x7F800000#32
  let main_v4 : FVec F S32768x256 .f32 := broadcastInDim S32768x256 ![] bcast_S_S32768x256 main_cst
  let main_v5 : IVec S32768x256 1 := cmpf .olt main_v3 main_v4
  let main_c_1 : IVec S_ 1 := constantI S_ 1 1#1
  let main_v6 : IVec S_ 1 := (fun x v => Host.reduce IntOp.andi x v reducesTo_S32768x256_S_d0_1 h_S_) main_v5 main_c_1
  let main_v7 : IVec S_ 1 := andi main_v2 main_v6
  let main_v8 : FVec F S256x128 .f32 := Host.absf main_arg2
  let main_cst_2 : FVec F S_ .f32 := constant S_ .f32 0x7F800000#32
  let main_v9 : FVec F S256x128 .f32 := broadcastInDim S256x128 ![] bcast_S_S256x128 main_cst_2
  let main_v10 : IVec S256x128 1 := cmpf .olt main_v8 main_v9
  let main_c_3 : IVec S_ 1 := constantI S_ 1 1#1
  let main_v11 : IVec S_ 1 := (fun x v => Host.reduce IntOp.andi x v reducesTo_S256x128_S_d0_1 h_S_) main_v10 main_c_3
  let main_v12 : IVec S_ 1 := andi main_v7 main_v11
  let main_v13 : FVec F S128 .f32 := Host.absf main_arg3
  let main_cst_4 : FVec F S_ .f32 := constant S_ .f32 0x7F800000#32
  let main_v14 : FVec F S128 .f32 := broadcastInDim S128 ![] bcast_S_S128 main_cst_4
  let main_v15 : IVec S128 1 := cmpf .olt main_v13 main_v14
  let main_c_5 : IVec S_ 1 := constantI S_ 1 1#1
  fn_part1 (F := F) main_arg4 main_arg6 main_v12 main_v15 main_c_5
-- ==== Kernel.lean ====
abbrev S32768x256 : Shape := ⟨2, ![32768, 256]⟩
abbrev S16 : Shape := ⟨1, ![16]⟩
abbrev S256x128 : Shape := ⟨2, ![256, 128]⟩
abbrev S128 : Shape := ⟨1, ![128]⟩
abbrev S128x1 : Shape := ⟨2, ![128, 1]⟩
abbrev S1 : Shape := ⟨1, ![1]⟩
abbrev S256x1 : Shape := ⟨2, ![256, 1]⟩
abbrev S1x256 : Shape := ⟨2, ![1, 256]⟩
abbrev S16x8x128 : Shape := ⟨3, ![16, 8, 128]⟩
abbrev S8192x256 : Shape := ⟨2, ![8192, 256]⟩
abbrev S4x8x128 : Shape := ⟨3, ![4, 8, 128]⟩
abbrev S2048x256 : Shape := ⟨2, ![2048, 256]⟩
abbrev S2048x128 : Shape := ⟨2, ![2048, 128]⟩
abbrev S2048 : Shape := ⟨1, ![2048]⟩
abbrev S1x2048 : Shape := ⟨2, ![1, 2048]⟩
abbrev S1x1 : Shape := ⟨2, ![1, 1]⟩
abbrev S8x128 : Shape := ⟨2, ![8, 128]⟩
abbrev S1x8x128 : Shape := ⟨3, ![1, 8, 128]⟩
abbrev S16x1x1 : Shape := ⟨3, ![16, 1, 1]⟩
abbrev S16x1 : Shape := ⟨2, ![16, 1]⟩

abbrev nBuf : Space → Nat
  | .hbm => 18
  | .vmem => 6
  | .smem => 0
  | _ => 0

abbrev bufTy : (tb : Table) → Fin (tcTables nBuf tb) → BufTy
  | .hbm, ⟨0, _⟩ => ⟨S32768x256, .f32⟩
  | .hbm, ⟨1, _⟩ => ⟨S16, .i32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S256x1, .f32⟩
  | .hbm, ⟨9, _⟩ => ⟨S1x256, .f32⟩
  | .hbm, ⟨10, _⟩ => ⟨S1, .f32⟩
  | .hbm, ⟨11, _⟩ => ⟨S1, .f32⟩
  | .hbm, ⟨12, _⟩ => ⟨S16x8x128, .f32⟩
  | .hbm, ⟨13, _⟩ => ⟨S16x1x1, .f32⟩
  | .hbm, ⟨14, _⟩ => ⟨S16x1, .f32⟩
  | .hbm, ⟨15, _⟩ => ⟨S1x1, .f32⟩
  | .hbm, ⟨16, _⟩ => ⟨S16x1, .f32⟩
  | .hbm, ⟨17, _⟩ => ⟨S16x1, .f32⟩
  | .local _ .vmem, ⟨0, _⟩ => ⟨S8192x256, .f32⟩
  | .local _ .vmem, ⟨1, _⟩ => ⟨S8192x256, .f32⟩
  | .local _ .vmem, ⟨2, _⟩ => ⟨S256x128, .f32⟩
  | .local _ .vmem, ⟨3, _⟩ => ⟨S1x256, .f32⟩
  | .local _ .vmem, ⟨4, _⟩ => ⟨S4x8x128, .f32⟩
  | .local _ .vmem, ⟨5, _⟩ => ⟨S4x8x128, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32768x256 : Shape := ⟨2, ![32768, 256]⟩
abbrev S16 : Shape := ⟨1, ![16]⟩
abbrev S256x128 : Shape := ⟨2, ![256, 128]⟩
abbrev S128 : Shape := ⟨1, ![128]⟩
abbrev S128x1 : Shape := ⟨2, ![128, 1]⟩
abbrev S1 : Shape := ⟨1, ![1]⟩
abbrev S15 : Shape := ⟨1, ![15]⟩
abbrev S_ : Shape := ⟨0, ![]⟩
abbrev S32768 : Shape := ⟨1, ![32768]⟩
abbrev S16x1 : Shape := ⟨2, ![16, 1]⟩
abbrev S32768x1 : Shape := ⟨2, ![32768, 1]⟩
abbrev S1x1 : Shape := ⟨2, ![1, 1]⟩
abbrev S32768x128 : Shape := ⟨2, ![32768, 128]⟩
abbrev S1x128 : Shape := ⟨2, ![1, 128]⟩
abbrev S1x32768 : Shape := ⟨2, ![1, 32768]⟩
abbrev S16x32768 : Shape := ⟨2, ![16, 32768]⟩
abbrev S16x128 : Shape := ⟨2, ![16, 128]⟩

abbrev nBuf : Space → Nat
  | .hbm => 121
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S16, .i32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S16, .i32⟩
  | .hbm, ⟨9, _⟩ => ⟨S1, .i32⟩
  | .hbm, ⟨10, _⟩ => ⟨S15, .i32⟩
  | .hbm, ⟨11, _⟩ => ⟨S16, .i32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S16, .i32⟩
  | .hbm, ⟨16, _⟩ => ⟨S_, .i32⟩
  | .hbm, ⟨17, _⟩ => ⟨S_, .i32⟩
  | .hbm, ⟨18, _⟩ => ⟨S16, .i32⟩
  | .hbm, ⟨19, _⟩ => ⟨S_, .i32⟩
  | .hbm, ⟨20, _⟩ => ⟨S32768, .i32⟩
  | .hbm, ⟨21, _⟩ => ⟨S_, .i32⟩
  | .hbm, ⟨22, _⟩ => ⟨S16, .i32⟩
  | .hbm, ⟨23, _⟩ => ⟨S16, .i1⟩
  | .hbm, ⟨24, _⟩ => ⟨S_, .i32⟩
  | .hbm, ⟨25, _⟩ => ⟨S16, .i32⟩
  | .hbm, ⟨26, _⟩ => ⟨S16, .i32⟩
  | .hbm, ⟨27, _⟩ => ⟨S16, .i32⟩
  | .hbm, ⟨28, _⟩ => ⟨S16x1, .i32⟩
  | .hbm, ⟨29, _⟩ => ⟨S_, .i32⟩
  | .hbm, ⟨30, _⟩ => ⟨S16, .i32⟩
  | .hbm, ⟨31, _⟩ => ⟨S32768, .i32⟩
  | .hbm, ⟨32, _⟩ => ⟨S_, .i32⟩
  | .hbm, ⟨33, _⟩ => ⟨S_, .i32⟩
  | .hbm, ⟨34, _⟩ => ⟨S32768, .i32⟩
  | .hbm, ⟨35, _⟩ => ⟨S_, .i32⟩
  | .hbm, ⟨36, _⟩ => ⟨S32768, .i32⟩
  | .hbm, ⟨37, _⟩ => ⟨S32768, .i32⟩
  | .hbm, ⟨38, _⟩ => ⟨S_, .i32⟩
  | .hbm, ⟨39, _⟩ => ⟨S32768, .i32⟩
  | .hbm, ⟨40, _⟩ => ⟨S32768, .i1⟩
  | .hbm, ⟨41, _⟩ => ⟨S_, .i32⟩
  | .hbm, ⟨42, _⟩ => ⟨S32768, .i32⟩
  | .hbm, ⟨43, _⟩ => ⟨S32768, .i32⟩
  | .hbm, ⟨44, _⟩ => ⟨S32768, .i32⟩
  | .hbm, ⟨45, _⟩ => ⟨S32768x1, .i32⟩
  | .hbm, ⟨46, _⟩ => ⟨S1, .i32⟩
  | .hbm, ⟨47, _⟩ => ⟨S_, .i32⟩
  | .hbm, ⟨48, _⟩ => ⟨S32768x1, .i32⟩
  | .hbm, ⟨49, _⟩ => ⟨S32768x1, .i1⟩
  | .hbm, ⟨50, _⟩ => ⟨S1x1, .i32⟩
  | .hbm, ⟨51, _⟩ => ⟨S32768x1, .i32⟩
  | .hbm, ⟨52, _⟩ => ⟨S32768x1, .i1⟩
  | .hbm, ⟨53, _⟩ => ⟨S32768x1, .i1⟩
  | .hbm, ⟨54, _⟩ => ⟨S_, .i1⟩
  | .hbm, ⟨55, _⟩ => ⟨S32768, .i1⟩
  | .hbm, ⟨56, _⟩ => ⟨S32768, .i32⟩
  | .hbm, ⟨57, _⟩ => ⟨S_, .i32⟩
  | .hbm, ⟨58, _⟩ => ⟨S32768, .i32⟩
  | .hbm, ⟨59, _⟩ => ⟨S32768, .i32⟩
  | .hbm, ⟨60, _⟩ => ⟨S32768x128, .f32⟩
  | .hbm, ⟨61, _⟩ => ⟨S1x128, .f32⟩
  | .hbm, ⟨62, _⟩ => ⟨S32768x128, .f32⟩
  | .hbm, ⟨63, _⟩ => ⟨S32768x128, .f32⟩
  | .hbm, ⟨64, _⟩ => ⟨S32768x128, .f32⟩
  | .hbm, ⟨65, _⟩ => ⟨S1x128, .f32⟩
  | .hbm, ⟨66, _⟩ => ⟨S32768x128, .f32⟩
  | .hbm, ⟨67, _⟩ => ⟨S32768x128, .f32⟩
  | .hbm, ⟨68, _⟩ => ⟨S_, .f32⟩
  | .hbm, ⟨69, _⟩ => ⟨S32768, .f32⟩
  | .hbm, ⟨70, _⟩ => ⟨S32768x1, .f32⟩
  | .hbm, ⟨71, _⟩ => ⟨S1x32768, .i32⟩
  | .hbm, ⟨72, _⟩ => ⟨S16, .i32⟩
  | .hbm, ⟨73, _⟩ => ⟨S16x1, .i32⟩
  | .hbm, ⟨74, _⟩ => ⟨S16x32768, .i32⟩
  | .hbm, ⟨75, _⟩ => ⟨S16x32768, .i32⟩
  | .hbm, ⟨76, _⟩ => ⟨S16x32768, .i1⟩
  | .hbm, ⟨77, _⟩ => ⟨S1x32768, .f32⟩
  | .hbm, ⟨78, _⟩ => ⟨S_, .f32⟩
  | .hbm, ⟨79, _⟩ => ⟨S_, .f32⟩
  | .hbm, ⟨80, _⟩ => ⟨S16x32768, .f32⟩
  | .hbm, ⟨81, _⟩ => ⟨S16x32768, .f32⟩
  | .hbm, ⟨82, _⟩ => ⟨S16x32768, .f32⟩
  | .hbm, ⟨83, _⟩ => ⟨S_, .f32⟩
  | .hbm, ⟨84, _⟩ => ⟨S16, .f32⟩
  | .hbm, ⟨85, _⟩ => ⟨S16x1, .f32⟩
  | .hbm, ⟨86, _⟩ => ⟨S_, .i32⟩
  | .hbm, ⟨87, _⟩ => ⟨S32768, .i32⟩
  | .hbm, ⟨88, _⟩ => ⟨S32768, .i1⟩
  | .hbm, ⟨89, _⟩ => ⟨S_, .i32⟩
  | .hbm, ⟨90, _⟩ => ⟨S32768, .i32⟩
  | .hbm, ⟨91, _⟩ => ⟨S32768, .i32⟩
  | .hbm, ⟨92, _⟩ => ⟨S32768, .i32⟩
  | .hbm, ⟨93, _⟩ => ⟨S32768x1, .i32⟩
  | .hbm, ⟨94, _⟩ => ⟨S32768x1, .f32⟩
  | .hbm, ⟨95, _⟩ => ⟨S32768x1, .f32⟩
  | .hbm, ⟨96, _⟩ => ⟨S32768x1, .f32⟩
  | .hbm, ⟨97, _⟩ => ⟨S_, .f32⟩
  | .hbm, ⟨98, _⟩ => ⟨S16x1, .f32⟩
  | .hbm, ⟨99, _⟩ => ⟨S32768x1, .i32⟩
  | .hbm, ⟨100, _⟩ => ⟨S16x1, .f32⟩
  | .hbm, ⟨101, _⟩ => ⟨S_, .i32⟩
  | .hbm, ⟨102, _⟩ => ⟨S32768, .i32⟩
  | .hbm, ⟨103, _⟩ => ⟨S32768, .i1⟩
  | .hbm, ⟨104, _⟩ => ⟨S_, .i32⟩
  | .hbm, ⟨105, _⟩ => ⟨S32768, .i32⟩
  | .hbm, ⟨106, _⟩ => ⟨S32768, .i32⟩
  | .hbm, ⟨107, _⟩ => ⟨S32768, .i32⟩
  | .hbm, ⟨108, _⟩ => ⟨S32768x1, .i32⟩
  | .hbm, ⟨109, _⟩ => ⟨S32768x1, .f32⟩
  | .hbm, ⟨110, _⟩ => ⟨S32768x1, .f32⟩
  | .hbm, ⟨111, _⟩ => ⟨S32768x128, .f32⟩
  | .hbm, ⟨112, _⟩ => ⟨S32768x128, .f32⟩
  | .hbm, ⟨113, _⟩ => ⟨S_, .f32⟩
  | .hbm, ⟨114, _⟩ => ⟨S16x128, .f32⟩
  | .hbm, ⟨115, _⟩ => ⟨S32768x1, .i32⟩
  | .hbm, ⟨116, _⟩ => ⟨S16x128, .f32⟩
  | .hbm, ⟨117, _⟩ => ⟨S16x1, .f32⟩
  | .hbm, ⟨118, _⟩ => ⟨S1x1, .f32⟩
  | .hbm, ⟨119, _⟩ => ⟨S16x1, .f32⟩
  | .hbm, ⟨120, _⟩ => ⟨S16x1, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_call1_call0_c : Ref sig .tc := ⟨.hbm, 16, rfl⟩
abbrev main_call1_call0_v0 : Ref sig .tc := ⟨.hbm, 17, rfl⟩
abbrev main_v4 : Ref sig .tc := ⟨.hbm, 18, rfl⟩
abbrev main_c_1 : Ref sig .tc := ⟨.hbm, 19, rfl⟩
abbrev main_v5 : Ref sig .tc := ⟨.hbm, 20, rfl⟩
abbrev main_c_2 : Ref sig .tc := ⟨.hbm, 21, rfl⟩
abbrev main_v6 : Ref sig .tc := ⟨.hbm, 22, rfl⟩
abbrev main_v7 : Ref sig .tc := ⟨.hbm, 23, rfl⟩
abbrev main_c_3 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_4 : Ref sig .tc := ⟨.hbm, 29, rfl⟩
abbrev main_v12 : Ref sig .tc := ⟨.hbm, 30, rfl⟩
abbrev main_v13 : Ref sig .tc := ⟨.hbm, 31, rfl⟩
abbrev main_call2_call0_c : Ref sig .tc := ⟨.hbm, 32, rfl⟩
abbrev main_call2_call0_v0 : Ref sig .tc := ⟨.hbm, 33, rfl⟩
abbrev main_v14 : Ref sig .tc := ⟨.hbm, 34, rfl⟩
abbrev main_c_5 : Ref sig .tc := ⟨.hbm, 35, rfl⟩
abbrev main_v15 : Ref sig .tc := ⟨.hbm, 36, rfl⟩
abbrev main_v16 : Ref sig .tc := ⟨.hbm, 37, rfl⟩
abbrev main_call3_c : Ref sig .tc := ⟨.hbm, 38, rfl⟩
abbrev main_call3_v0 : Ref sig .tc := ⟨.hbm, 39, rfl⟩
abbrev main_call3_v1 : Ref sig .tc := ⟨.hbm, 40, rfl⟩
abbrev main_call3_c_0 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_call3_v5 : Ref sig .tc := ⟨.hbm, 45, rfl⟩
abbrev main_call3_c_1 : Ref sig .tc := ⟨.hbm, 46, rfl⟩
abbrev main_call3_c_2 : Ref sig .tc := ⟨.hbm, 47, rfl⟩
abbrev main_call3_v6 : Ref sig .tc := ⟨.hbm, 48, rfl⟩
abbrev main_call3_v7 : Ref sig .tc := ⟨.hbm, 49, rfl⟩
abbrev main_call3_v8 : Ref sig .tc := ⟨.hbm, 50, rfl⟩
abbrev main_call3_v9 : Ref sig .tc := ⟨.hbm, 51, rfl⟩
abbrev main_call3_v10 : Ref sig .tc := ⟨.hbm, 52, rfl⟩
abbrev main_call3_v11 : Ref sig .tc := ⟨.hbm, 53, rfl⟩
abbrev main_call3_c_3 : Ref sig .tc := ⟨.hbm, 54, rfl⟩
abbrev main_call3_v12 : Ref sig .tc := ⟨.hbm, 55, rfl⟩
abbrev main_call3_v13 : Ref sig .tc := ⟨.hbm, 56, rfl⟩
abbrev main_call3_c_4 : Ref sig .tc := ⟨.hbm, 57, rfl⟩
abbrev main_call3_v14 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_cst : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_cst_6 : Ref sig .tc := ⟨.hbm, 78, rfl⟩
abbrev main_call4_v0 : Ref sig .tc := ⟨.hbm, 79, rfl⟩
abbrev main_call4_v1 : Ref sig .tc := ⟨.hbm, 80, rfl⟩
abbrev main_call4_v2 : Ref sig .tc := ⟨.hbm, 81, rfl⟩
abbrev main_v35 : Ref sig .tc := ⟨.hbm, 82, rfl⟩
abbrev main_cst_7 : Ref sig .tc := ⟨.hbm, 83, rfl⟩
abbrev main_v36 : Ref sig .tc := ⟨.hbm, 84, rfl⟩
abbrev main_v37 : Ref sig .tc := ⟨.hbm, 85, rfl⟩
abbrev main_c_8 : Ref sig .tc := ⟨.hbm, 86, rfl⟩
abbrev main_v38 : Ref sig .tc := ⟨.hbm, 87, rfl⟩
abbrev main_v39 : Ref sig .tc := ⟨.hbm, 88, rfl⟩
abbrev main_c_9 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_cst_10 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_c_11 : Ref sig .tc := ⟨.hbm, 101, rfl⟩
abbrev main_v50 : Ref sig .tc := ⟨.hbm, 102, rfl⟩
abbrev main_v51 : Ref sig .tc := ⟨.hbm, 103, rfl⟩
abbrev main_c_12 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_cst_13 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩

abbrev nD : Nat := 1
abbrev τ : Topo := Topo.v7x

variable {F : FTy → Type} [FloatOps F]
-- ==== Proof.Equation.lean ====
/-
  The equation between the two ways to pool one segment, over the extended reals: the softmax of biased key sums against
  biased values and then the output weights, and the softmax of unbiased key sums against the values already contracted
  with the output weights.
-/
module

public import Idealize.ShloMosaic.PureOps.Ideal.Laws

@[expose] public section

noncomputable section

namespace Cert.Proof.Eqn

/-- Token `i` of segment `b`: the segments are 2048 consecutive tokens each. -/
def token (b : Fin 16) (i : Fin 2048) : Fin 32768 := ⟨2048 * b.val + i.val, by omega⟩

open Idealize.ShloMosaic

/-- The pooled scalar of one segment from its logits `a` and its per-token scalars `t`: the sum of `exp (a i - max a) * t i`
    over the sum of `exp (a i - max a)`. -/
def pooled (a t : Fin 2048 → EReal) : EReal :=
  Ideal.div (∑ i, Ideal.exp (a i - Finset.univ.sup a) * t i) (∑ i, Ideal.exp (a i - Finset.univ.sup a))

/-- A token's unbiased key sum. -/
def keySum (x : Fin 256 → EReal) (wk : Fin 256 → Fin 128 → EReal) : EReal := ∑ j, ∑ k, x k * wk k j

/-- A token's value contracted with the output weights, the two weight matrices contracted first. -/
def mixed (x : Fin 256 → EReal) (wv : Fin 256 → Fin 128 → EReal) (wo : Fin 128 → EReal) : EReal := ∑ k, x k * ∑ j, wv k j * wo j

/-- A token's biased key sum. -/
def logit (x : Fin 256 → EReal) (wk : Fin 256 → Fin 128 → EReal) (bk : Fin 128 → EReal) : EReal := ∑ j, ((∑ k, x k * wk k j) + bk j)

/-- The softmax weight of token `i` among the logits `l`. -/
def weight (l : Fin 2048 → EReal) (i : Fin 2048) : EReal :=
  Ideal.div (Ideal.exp (l i - Finset.univ.sup l)) (∑ i', Ideal.exp (l i' - Finset.univ.sup l))

/-- The embedding of the reals in the extended reals keeps finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many reals is a real. -/
theorem sup_coe (A : Fin 2048 → ℝ) :
    Finset.univ.sup (fun i => (A i : EReal)) = ((Finset.univ.sup' Finset.univ_nonempty A : ℝ) : EReal) := by
  apply le_antisymm
  · exact Finset.sup_le fun i _ => EReal.coe_le_coe_iff.2 (Finset.le_sup' A (Finset.mem_univ i))
  · obtain ⟨i, _, hi⟩ := Finset.exists_mem_eq_sup' Finset.univ_nonempty A
    rw [hi]
    exact Finset.le_sup (f := fun i => (A i : EReal)) (Finset.mem_univ i)

/-- Adding one real to every logit adds it to the greatest. -/
theorem sup'_add (A : Fin 2048 → ℝ) (c : ℝ) :
    Finset.univ.sup' Finset.univ_nonempty (fun i => A i + c) = Finset.univ.sup' Finset.univ_nonempty A + c := by
  apply le_antisymm
  · exact Finset.sup'_le _ _ fun i hi => by have := Finset.le_sup' A hi; linarith
  · obtain ⟨i, hi, h⟩ := Finset.exists_mem_eq_sup' Finset.univ_nonempty A
    rw [h]
    exact Finset.le_sup' (fun i => A i + c) hi

/-- The quotient of two reals, the divisor not zero, is the real quotient. -/
theorem div_coe (a d : ℝ) (hd : d ≠ 0) : Ideal.div (a : EReal) (d : EReal) = ((a / d : ℝ) : EReal) := by
  unfold Ideal.div
  rw [if_neg (by exact_mod_cast hd), ← EReal.coe_inv, ← EReal.coe_mul, div_eq_mul_inv]

/-- The exponential of a difference of two reals. -/
theorem exp_sub_coe (a b : ℝ) : Ideal.exp ((a : EReal) - (b : EReal)) = ((Real.exp (a - b) : ℝ) : EReal) := by
  rw [← EReal.coe_sub]
  rfl

/-- A copy or more of `⊤` sums to `⊤`. -/
theorem nsmul_top (n : ℕ) : (n + 1) • (⊤ : EReal) = ⊤ := by
  induction n with
  | zero => simp
  | succ n ih => rw [succ_nsmul, ih]; rfl

/-- A copy or more of `⊥` sums to `⊥`. -/
theorem nsmul_bot (n : ℕ) : (n + 1) • (⊥ : EReal) = ⊥ := by
  induction n with
  | zero => simp
  | succ n ih => rw [succ_nsmul, ih]; rfl

/-- Positive real weights that sum to one take `v i + b`, for real `v` and any `b`, to the weighted sum of `v` plus `b`. -/
theorem weighted_add (s v : Fin 2048 → ℝ) (hs : ∀ i, 0 < s i) (h1 : ∑ i, s i = 1) (b : EReal) :
    ∑ i, (s i : EReal) * ((v i : EReal) + b) = ((∑ i, s i * v i : ℝ) : EReal) + b := by
  induction b using EReal.rec with
  | bot =>
    rw [EReal.add_bot]
    rw [Finset.sum_congr rfl (g := fun _ => (⊥ : EReal)) fun i _ => by rw [EReal.add_bot, EReal.coe_mul_bot_of_pos (hs i)]]
    rw [Finset.sum_const, Finset.card_univ, Fintype.card_fin]
    exact nsmul_bot 2047
  | top =>
    rw [EReal.coe_add_top]
    rw [Finset.sum_congr rfl (g := fun _ => (⊤ : EReal)) fun i _ => by rw [EReal.coe_add_top, EReal.coe_mul_top_of_pos (hs i)]]
    rw [Finset.sum_const, Finset.card_univ, Fintype.card_fin]
    exact nsmul_top 2047
  | coe r =>
    rw [Finset.sum_congr rfl (g := fun i => ((s i * v i + s i * r : ℝ) : EReal)) fun i _ => by
      rw [← EReal.coe_add, ← EReal.coe_mul, mul_add], ← coe_sum, Finset.sum_add_distrib, ← Finset.sum_mul, h1, one_mul, EReal.coe_add]

/-- A real plus anything, times a real, is the sum of the two products. -/
theorem add_mul_coe (p w : ℝ) (b : EReal) : ((p : EReal) + b) * (w : EReal) = ((p * w : ℝ) : EReal) + b * (w : EReal) := by
  induction b using EReal.rec with
  | bot =>
    rw [EReal.add_bot]
    rcases lt_trichotomy w 0 with h | h | h
    · rw [EReal.bot_mul_coe_of_neg h, EReal.coe_add_top]
    · subst h; simp
    · rw [EReal.bot_mul_coe_of_pos h, EReal.add_bot]
  | top =>
    rw [EReal.coe_add_top]
    rcases lt_trichotomy w 0 with h | h | h
    · rw [EReal.top_mul_coe_of_neg h, EReal.add_bot]
    · subst h; simp
    · rw [EReal.top_mul_coe_of_pos h, EReal.coe_add_top]
  | coe r => rw [← EReal.coe_add, ← EReal.coe_mul, ← EReal.coe_mul, ← EReal.coe_add, add_mul]

/-- The real identity under the equation: contracting the pooled values with the output weights is pooling the contracted values. -/
theorem contract_swap (e : Fin 2048 → ℝ) (D : ℝ) (x : Fin 2048 → Fin 256 → ℝ) (wv : Fin 256 → Fin 128 → ℝ) (wo : Fin 128 → ℝ) :
    ∑ j, (∑ i, e i / D * ∑ k, x i k * wv k j) * wo j = (∑ i, e i * ∑ k, x i k * ∑ j, wv k j * wo j) / D := by
  simp only [Finset.sum_mul, Finset.mul_sum, Finset.sum_div]
  rw [Finset.sum_comm]
  refine Finset.sum_congr rfl fun i _ => ?_
  rw [Finset.sum_comm]
  refine Finset.sum_congr rfl fun k _ => Finset.sum_congr rfl fun j _ => ?_
  ring

/-- THE EQUATION. For real tokens, key weights, key bias, value weights and output weights, and any value bias and output
    bias: the softmax-weighted biased values contracted with the output weights, plus the output bias, is the pooled scalar
    of the unbiased key sums and the contracted values, plus the value bias contracted with the output weights and the
    output bias. -/
theorem pool_eq (x : Fin 2048 → Fin 256 → ℝ) (wk : Fin 256 → Fin 128 → ℝ) (bk : Fin 128 → ℝ) (wv : Fin 256 → Fin 128 → ℝ)
    (bv : Fin 128 → EReal) (wo : Fin 128 → ℝ) (bo : EReal) :
    (∑ j, (∑ i, weight (fun i => logit (fun k => (x i k : EReal)) (fun k j => (wk k j : EReal)) fun j => (bk j : EReal)) i
        * ((∑ k, (x i k : EReal) * (wv k j : EReal)) + bv j)) * (wo j : EReal)) + bo
      = pooled (fun i => keySum (fun k => (x i k : EReal)) fun k j => (wk k j : EReal))
          (fun i => mixed (fun k => (x i k : EReal)) (fun k j => (wv k j : EReal)) fun j => (wo j : EReal))
        + ((∑ j, bv j * (wo j : EReal)) + bo) := by
  -- the two kinds of logit are real, and differ by the sum of the key bias
  let A : Fin 2048 → ℝ := fun i => ∑ j, ∑ k, x i k * wk k j
  let c : ℝ := ∑ j, bk j
  have hk : (fun i => keySum (fun k => (x i k : EReal)) fun k j => (wk k j : EReal)) = fun i => ((A i : ℝ) : EReal) := by
    funext i
    simp only [keySum, A, coe_sum, EReal.coe_mul]
  have hl : (fun i => logit (fun k => (x i k : EReal)) (fun k j => (wk k j : EReal)) fun j => (bk j : EReal))
      = fun i => ((A i + c : ℝ) : EReal) := by
    funext i
    simp only [logit, A, c, Finset.sum_add_distrib, coe_sum, EReal.coe_mul, EReal.coe_add]
  have ht : ∀ i, mixed (fun k => (x i k : EReal)) (fun k j => (wv k j : EReal)) (fun j => (wo j : EReal))
      = ((∑ k, x i k * ∑ j, wv k j * wo j : ℝ) : EReal) := fun i => by
    simp only [mixed, coe_sum, EReal.coe_mul]
  -- the exponentials
  let M : ℝ := Finset.univ.sup' Finset.univ_nonempty A
  let e : Fin 2048 → ℝ := fun i => Real.exp (A i - M)
  let D : ℝ := ∑ i, e i
  have he : ∀ i, 0 < e i := fun i => Real.exp_pos _
  have hD : 0 < D := Finset.sum_pos (fun i _ => he i) Finset.univ_nonempty
  have hw : ∀ i, weight (fun i => ((A i + c : ℝ) : EReal)) i = ((e i / D : ℝ) : EReal) := fun i => by
    unfold weight
    simp only [sup_coe, sup'_add, exp_sub_coe, add_sub_add_right_eq_sub]
    rw [← coe_sum, div_coe _ _ hD.ne']
  have hs1 : ∑ i, e i / D = 1 := by rw [← Finset.sum_div]; exact div_self hD.ne'
  rw [hl, hk]
  simp only [hw, ht]
  have hin : ∀ j, ∑ i, ((e i / D : ℝ) : EReal) * ((∑ k, (x i k : EReal) * (wv k j : EReal)) + bv j)
      = ((∑ i, e i / D * ∑ k, x i k * wv k j : ℝ) : EReal) + bv j := fun j => by
    rw [← weighted_add _ _ (fun i => div_pos (he i) hD) hs1]
    simp only [coe_sum, EReal.coe_mul]
  simp only [hin, add_mul_coe]
  rw [Finset.sum_add_distrib, ← coe_sum, contract_swap, add_assoc]
  unfold pooled
  simp only [sup_coe, exp_sub_coe, ← EReal.coe_mul, ← coe_sum]
  rw [div_coe _ _ hD.ne']

end Cert.Proof.Eqn
-- ==== Proof.KernelBlock.lean ====
/-
  What one grid step of the kernel computes: its output block, of four segments, holds at every place of row `s` the pooled
  scalar of the block's tokens `2048 * s`, …, `2048 * s + 2047`.
-/
module

public import proofs.«01_k».proof.Proof.Gen.KernelIdeal.Frame
public import proofs.«01_k».proof.Proof.Equation
public import Idealize.ShloMosaic.Lib.Pointwise
public import Idealize.ShloMosaic.Lib.Pipeline.ValueKit

@[expose] public section

noncomputable section

namespace Cert.Proof.Ker

open Cert.KernelIdeal Cert.KernelIdeal.Gen Idealize.ShloMosaic Idealize.ShloMosaic.TcCoe Idealize.SL.Sem

/-- The f32 pattern of minus infinity is the least extended real. -/
theorem negInf : Ideal.ofBits .f32 0xFF800000#32 = ⊥ := by
  simp [Ideal.ofBits, Ideal.ieee]

/-- A segment's pooled scalar from its 2048 tokens `x`, the key weights `w` and the contracted value weights `u` (a row). -/
def segPool (x : Fin 2048 → Fin 256 → EReal) (w : Fin 256 → Fin 128 → EReal) (u : Fin 256 → EReal) : EReal :=
  Eqn.pooled (fun i => Eqn.keySum (x i) w) (fun i => ∑ k, x i k * u k)

/-- The first segment's stored block is constant at its pooled scalar. -/
theorem pay4_apply (w : Vec Ideal S256x128 .f32) (u : Vec Ideal S1x256 .f32) (x : Vec Ideal S2048x256 .f32) (j : S1x8x128.Idx) :
    k0_pay4 (F := Ideal) w u x j = segPool (fun i k => x (ix2 i k)) (fun k j => w (ix2 k j)) (fun k => u (ix2 0 k)) := by
  pointwise [k0_pay4, k0_pay3]
  rw [negInf]
  rfl

/-- The second segment's stored block likewise. -/
theorem pay8_apply (w : Vec Ideal S256x128 .f32) (u : Vec Ideal S1x256 .f32) (x : Vec Ideal S2048x256 .f32) (j : S1x8x128.Idx) :
    k0_pay8 (F := Ideal) (k0_pay5 w x) (k0_pay6 u x) (k0_pay7 w x) j
      = segPool (fun i k => x (ix2 i k)) (fun k j => w (ix2 k j)) (fun k => u (ix2 0 k)) := by
  pointwise [k0_pay8, k0_pay5, k0_pay6, k0_pay7, k0_pay3]
  rw [negInf]
  rfl

/-- The third segment's stored block likewise. -/
theorem pay9_apply (w : Vec Ideal S256x128 .f32) (u : Vec Ideal S1x256 .f32) (x : Vec Ideal S2048x256 .f32) (j : S1x8x128.Idx) :
    k0_pay1 (F := Ideal) (k0_pay9 w (k0_pay3 u) x) j
      = segPool (fun i k => x (ix2 i k)) (fun k j => w (ix2 k j)) (fun k => u (ix2 0 k)) := by
  pointwise [k0_pay1, k0_pay9, k0_pay3]
  rw [negInf]
  rfl

/-- The fourth segment's stored block likewise. -/
theorem pay2_apply (w : Vec Ideal S256x128 .f32) (u : Vec Ideal S1x256 .f32) (x : Vec Ideal S2048x256 .f32) (j : S1x8x128.Idx) :
    k0_pay2 (F := Ideal) w (k0_pay3 u) x j
      = segPool (fun i k => x (ix2 i k)) (fun k j => w (ix2 k j)) (fun k => u (ix2 0 k)) := by
  pointwise [k0_pay2, k0_pay3]
  rw [negInf]
  rfl

/-- Token `i` of segment `s` of a block of four segments. -/
def tok (s : Fin 4) (i : Fin 2048) : Fin 8192 := ⟨2048 * s.val + i.val, by omega⟩

/-- The pooled scalar of segment `s` of a grid step's block. -/
def blockPool (x : Vec Ideal S8192x256 .f32) (w : Vec Ideal S256x128 .f32) (u : Vec Ideal S1x256 .f32) (s : Fin 4) : EReal :=
  segPool (fun i k => x (ix2 (tok s i) k)) (fun k j => w (ix2 k j)) (fun k => u (ix2 0 k))

/-- The pooled scalar of the rows loaded at offset `2048 * s`, with the weights loaded whole, is segment `s`'s. -/
theorem segPool_ld (x : Vec Ideal S8192x256 .f32) (w : Vec Ideal S256x128 .f32) (u : Vec Ideal S1x256 .f32) (o : ℕ) (s : Fin 4)
    (ho : o = 2048 * s.val) (inb) :
    segPool (fun i k => View.ld x (Rect.unit (s := S8192x256) ![o, 0] S2048x256.size inb) (ix2 i k))
        (fun k j => View.ld w r0_0 (ix2 k j)) (fun k => View.ld u r0_1 (ix2 0 k)) = blockPool x w u s := by
  unfold blockPool
  have hx : ∀ (i : Fin 2048) (k : Fin 256),
      View.ld x (Rect.unit (s := S8192x256) ![o, 0] S2048x256.size inb) (ix2 i k) = x (ix2 (tok s i) k) := fun i k =>
    View.ld_unit_apply_of x _ _ inb _ _ fun a => by
      match a with
      | ⟨0, _⟩ => subst ho; rfl
      | ⟨1, _⟩ => exact (Nat.zero_add _).symm
  have hw : View.ld w r0_0 = w := View.ld_unit_lit _ w (by decide)
  have hu : View.ld u r0_1 = u := View.ld_unit_lit _ u (by decide)
  rw [hw, hu]
  simp only [hx]

/-- A place of the slab stored at offset `s` of the block is in row `s`. -/
theorem slab_row (s : Fin 4) (inb) (z : (Rect.unit (s := S4x8x128) ![s.val, 0, 0] S1x8x128.size inb).shape.Idx) :
    ((Rect.unit (s := S4x8x128) ![s.val, 0, 0] S1x8x128.size inb).emb z 0 : Fin 4) = s := by
  have h : (z 0).val < 1 := (z 0).isLt
  apply Fin.ext
  show s.val + 1 * (z 0).val = s.val
  omega

/-- A grid step's output block: every place of row `s` holds the pooled scalar of the block's segment `s`. -/
theorem out_apply (x : Vec Ideal S8192x256 .f32) (w : Vec Ideal S256x128 .f32) (u : Vec Ideal S1x256 .f32) (y : S4x8x128.Idx) :
    out0_3 (F := Ideal) x w u y = blockPool x w u (y 0) := by
  unfold out0_3
  refine View.canon_apply_of_pieces (Val := Elt Ideal) (e := .f32) (fun y : S4x8x128.Idx => blockPool x w u (y 0)) _ ?_ y
    (cover0_3 _ _ _ _ y)
  intro p hp z
  simp only [List.mem_cons, List.not_mem_nil, or_false] at hp
  rcases hp with rfl | rfl | rfl | rfl
  · exact (pay2_apply _ _ _ z).trans ((segPool_ld x w u 6144 3 rfl _).trans (congrArg _ (slab_row 3 inb_S4x8x128_S1x8x128_3_0_0 z).symm))
  · exact (pay9_apply _ _ _ z).trans ((segPool_ld x w u 4096 2 rfl _).trans (congrArg _ (slab_row 2 inb_S4x8x128_S1x8x128_2_0_0 z).symm))
  · exact (pay8_apply _ _ _ z).trans ((segPool_ld x w u 2048 1 rfl _).trans (congrArg _ (slab_row 1 inb_S4x8x128_S1x8x128_1_0_0 z).symm))
  · exact (pay4_apply _ _ _ z).trans ((segPool_ld x w u 0 0 rfl _).trans (congrArg _ (slab_row 0 inb_S4x8x128_S1x8x128_0_0_0 z).symm))

end Cert.Proof.Ker
-- ==== Proof.KernelArray.lean ====
/-
  What the kernel's program returns: the array its region leaves, the host operations before and after it, and the returned column.
-/
module

public import proofs.«01_k».proof.Proof.KernelBlock
public import Idealize.ShloMosaic.Lib.Claim
public import Idealize.ShloMosaic.Lib.StableHlo.ReadAt

@[expose] public section

noncomputable section

namespace Cert.Proof.Ker

open Cert.KernelIdeal Cert.KernelIdeal.Gen Idealize.ShloMosaic Idealize.ShloMosaic.TcCoe Idealize.SL.Sem

variable (m : (ℓ : Loc nD τ sig) → Buf (Elt Ideal) ℓ)

/-- The pooled scalar of segment `b`, from the tokens, the key weights and the contracted value weights. -/
def arrPool (x : Vec Ideal S32768x256 .f32) (w : Vec Ideal S256x128 .f32) (u : Vec Ideal S1x256 .f32) (b : Fin 16) : EReal :=
  segPool (fun i k => x (ix2 (Eqn.token b i) k)) (fun k j => w (ix2 k j)) (fun k => u (ix2 0 k))

/-- The block indices of the four windows at a grid point. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0, 0] := (by decide +kernel : ∀ t : Fin grid0.N, _)

/-- The staged tokens of point `t` are rows `8192 * t`, … of the argument. -/
theorem blk_x (c : Dev nD) (t : Fin cfg0.N) (s : Fin 4) (i : Fin 2048) (k : Fin 256) (b : Fin 16) (hb : b.val = 4 * t.val + s.val) :
    iblk m c 0 t (ix2 (tok s i) k) = V m c main_arg0 (ix2 (Eqn.token b i) k) := by
  blk_simp [iblk]
  refine congrArg (V m c main_arg0) ?_
  funext a
  apply Fin.ext
  match a with
  | ⟨0, _⟩ =>
    show win0_0.index t 0 * 8192 + 1 * (2048 * s.val + i.val) = 2048 * b.val + i.val
    rw [idx0, hb]
    show t.val * 8192 + _ = _
    omega
  | ⟨1, _⟩ =>
    show win0_0.index t 1 * 256 + 1 * k.val = k.val
    rw [idx0]
    show 0 * 256 + _ = _
    omega

/-- The staged key weights are the whole argument, -/
theorem blk_w (c : Dev nD) (t : Fin cfg0.N) (k : Fin 256) (j : Fin 128) :
    iblk m c 1 t (ix2 k j) = V m c main_arg2 (ix2 k j) := by
  blk_simp [iblk]
  refine congrArg (V m c main_arg2) ?_
  funext a
  apply Fin.ext
  match a with
  | ⟨0, _⟩ =>
    show win0_1.index t 0 * 256 + 1 * k.val = k.val
    rw [idx1]
    show 0 * 256 + _ = _
    omega
  | ⟨1, _⟩ =>
    show win0_1.index t 1 * 128 + 1 * j.val = j.val
    rw [idx1]
    show 0 * 128 + _ = _
    omega

/-- and so are the staged contracted value weights. -/
theorem blk_u (c : Dev nD) (t : Fin cfg0.N) (k : Fin 256) : iblk m c 2 t (ix2 0 k) = V m c main_v1 (ix2 0 k) := by
  blk_simp [iblk]
  refine congrArg (V m c main_v1) ?_
  funext a
  apply Fin.ext
  match a with
  | ⟨0, _⟩ =>
    show win0_2.index t 0 * 1 + 1 * 0 = 0
    rw [idx2]
    rfl
  | ⟨1, _⟩ =>
    show win0_2.index t 1 * 256 + 1 * k.val = k.val
    rw [idx2]
    show 0 * 256 + _ = _
    omega

/-- The region leaves, at every place of row `b` of its array, segment `b`'s pooled scalar. -/
theorem final_o (c : Dev nD) : (dats m 0 c).arrAt 3 cfg0.N
    = fun i : S16x8x128.Idx => arrPool (V m c main_arg0) (V m c main_arg2) (V m c main_v1) (i 0) := by
  refine (dats m 0 c).arrAt_eq_of_covers 3 _ (by decide +kernel) fun t hf y => ?_
  blk_simp
  rw [after0_3]
  have hb : ((win0_3.blk t).view.emb y 0).val = 4 * t.val + (y 0).val := by
    show win0_3.index t 0 * 4 + 1 * (y 0).val = _
    rw [idx3]
    show t.val * 4 + _ = _
    omega
  refine (out_apply _ _ _ y).trans ?_
  unfold blockPool arrPool
  simp only [fun i k => blk_x m c t (y 0) i k _ hb, blk_w m c t, blk_u m c t]

/-- The arguments as launched, each at its array type. -/
abbrev ax (c : Dev nD) : Vec Ideal S32768x256 .f32 := m ((c : Thread nD τ).loc main_arg0)
abbrev awk (c : Dev nD) : Vec Ideal S256x128 .f32 := m ((c : Thread nD τ).loc main_arg2)
abbrev awv (c : Dev nD) : Vec Ideal S256x128 .f32 := m ((c : Thread nD τ).loc main_arg4)
abbrev abv (c : Dev nD) : Vec Ideal S128 .f32 := m ((c : Thread nD τ).loc main_arg5)
abbrev awo (c : Dev nD) : Vec Ideal S128x1 .f32 := m ((c : Thread nD τ).loc main_arg6)
abbrev abo (c : Dev nD) : Vec Ideal S1 .f32 := m ((c : Thread nD τ).loc main_arg7)

/-- The contracted value weights, as the region finds them. -/
theorem entry_u (c : Dev nD) (k : Fin 256) : (V m c main_v1 : Vec Ideal S1x256 .f32) (ix2 0 k)
    = ∑ j : Fin 128, awv m c (ix2 k j) * awo m c (ix2 j 0) := by
  unfold V
  after_reads_at

/-- The constant the result adds: the value bias through the output weights, and the output bias. -/
theorem entry_o (c : Dev nD) : (V m c main_v3 : Vec Ideal S1 .f32) (ix1 0)
    = (∑ j : Fin 128, abv m c (ix1 j) * awo m c (ix2 j 0)) + abo m c (ix1 0) := by
  unfold V
  after_reads_at

/-- The column the kernel returns, from its arguments: row `b` is segment `b`'s pooled scalar and the constant. -/
def column (x : Vec Ideal S32768x256 .f32) (wk wv : Vec Ideal S256x128 .f32) (bv : Vec Ideal S128 .f32) (wo : Vec Ideal S128x1 .f32)
    (bo : Vec Ideal S1 .f32) (b : Fin 16) : EReal :=
  Eqn.pooled (fun i => Eqn.keySum (fun k => x (ix2 (Eqn.token b i) k)) fun k j => wk (ix2 k j))
      (fun i => Eqn.mixed (fun k => x (ix2 (Eqn.token b i) k)) (fun k j => wv (ix2 k j)) fun j => wo (ix2 j 0))
    + ((∑ j : Fin 128, bv (ix1 j) * wo (ix2 j 0)) + bo (ix1 0))

/-- The returned buffer after the host operations that follow the region holds that column. -/
theorem result_apply (c : Dev nD) (i : S16x1.Idx) :
    (Pipeline.afterTail₀ cfgs (dats m) 0 (V0 m) [hostOps1] c main_v9 : Vec Ideal S16x1 .f32) i
      = column (ax m c) (awk m c) (awv m c) (abv m c) (awo m c) (abo m c) (i 0) := by
  unfold Pipeline.afterTail₀
  after_reads_at
  have h4 : Pipeline.withArrays (cfgs 0).spec c (V0 m c) (fun w => (dats m 0 c).arrAt w (cfgs 0).N) (Proc.tc.devRef main_v4)
      = (dats m 0 c).arrAt 3 cfg0.N :=
    Pipeline.withArrays_arr spec0 (by decide : Function.Injective (Pipeline.arrRef spec0)) c (V0 m c)
      (fun w => (dats m 0 c).arrAt w cfg0.N) 3
  have h3 : Pipeline.withArrays (cfgs 0).spec c (V0 m c) (fun w => (dats m 0 c).arrAt w (cfgs 0).N) (Proc.tc.devRef main_v3)
      = V m c main_v3 :=
    Pipeline.withArrays_of_ne spec0 c (V0 m c) (fun w => (dats m 0 c).arrAt w cfg0.N) main_v3
      (by exact (by decide : ∀ w, Pipeline.arrRef spec0 w ≠ main_v3))
  rw [h4, h3, final_o]
  refine congrArg₂ (fun a b : EReal => a + b) ?_ (entry_o m c)
  show arrPool (V m c main_arg0) (V m c main_arg2) (V m c main_v1) (i 0) = _
  unfold arrPool segPool
  rw [V_main_arg0, V_main_arg2]
  simp only [entry_u m c]
  rfl

/-- The kernel's run: the returned buffer holds the column, and no argument changes. -/
theorem run (ρ : Dev nD → PrngReg) : θ_run defs (onTc (τ := τ) (main (F := Ideal))) ⟨m, fun _ => 0, ρ⟩ fun r => ∀ c : Dev nD,
      r.2.mem ((c : Thread nD τ).loc main_v9)
          = (fun i : S16x1.Idx => column (ax m c) (awk m c) (awv m c) (abv m c) (awo m c) (abo m c) (i 0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c =>
    ⟨((h.1 c).2 main_v9 (Pipeline.mem_restRefs_of main_v9 (by decide) (by decide))).trans (funext fun i => result_apply m c i), h.2 c⟩)
    (θ_run_and (run_main m ρ) (unchanged m ρ))

end Cert.Proof.Ker
-- ==== Proof.SegmentWords.lean ====
/-
  The segment number the reference computes for each of the 32768 tokens, at lengths that are all 2048: the running sum
  of the lengths shifted by one place, a mark at every segment's first token, the running count of the marks, and the
  segment's number read at the count less one. The token at position `p` gets the number `p / 2048`.
-/
module

public import proofs.«01_k».proof.Proof.Gen.ReferenceIdeal.Read
public import Idealize.ShloMosaic.Lib.Routing.OpsSet
public import Idealize.ShloMosaic.Lib.Routing.OpsPair
public import Idealize.ShloMosaic.Lib.Routing.Count
public import Idealize.ShloMosaic.Lib.ReduceAll

@[expose] public section

noncomputable section

namespace Cert.Proof.Seg

open Cert.ReferenceIdeal Cert.ReferenceIdeal.Gen Cert.ReferenceIdeal.Read
open Idealize.ShloMosaic Idealize.ShloMosaic.ValueIdx Idealize.ShloMosaic.Routing

/-- The lengths the claim is about: sixteen words, each 2048. -/
abbrev fullLens : (⟨S16, .i32⟩ : BufTy).Contents (Elt Ideal) := fun _ => 2048#32

/-- Where segment `b` begins: the running sum of the shifted lengths is `2048 * b`. -/
theorem begins (b : Fin 16) : val_main_v4 (F := Ideal) fullLens (ix1 b) = BitVec.ofNat 32 (2048 * b.val) := by
  revert b
  decide +kernel

/-- The place segment `b` marks, as the scatter's index word. -/
theorem markPlace (b : Fin 16) : val_main_v11 (F := Ideal) fullLens (ix2 b (0 : Fin 1)) = BitVec.ofNat 32 (2048 * b.val) := by
  have hb := b.isLt
  rw [val_main_v11_apply, show idx_main_v11 (ix2 b (0 : Fin 1)) = ix1 b from eq_ix1 _, val_main_v10_apply, val_main_v7_apply,
    val_main_v6_apply, val_main_c_2_apply, wrap_of_lt _ _ (by rw [begins, BitVec.toNat_ofNat]; omega), begins]

/-- Mark `b` lands on token `x` exactly when `x` is the segment's first token. -/
theorem markLands (b : Fin 16) (x : Fin 32768) :
    scatter_S32768_S16x1_S16_n_0_0_1.resultIdx? (ix1 b) (val_main_v11 (F := Ideal) fullLens) = some (ix1 x)
      ↔ 2048 * b.val = x.val := by
  have hb := b.isLt
  have hs : scatter_S32768_S16x1_S16_n_0_0_1.start (ix1 b) (val_main_v11 (F := Ideal) fullLens) 0 = ((2048 * b.val : Nat) : Int) := by
    rw [← StableHlo.Predicate.toInt_ofNat_small (2048 * b.val) (by omega), ← markPlace b]
    unfold ScatterDims.start
    rw [dif_pos (show (0 : Fin 1) ∈ scatter_S32768_S16x1_S16_n_0_0_1.scatterDimsToOperandDims from List.mem_singleton.2 rfl)]
    refine congrArg (fun i => BitVec.toInt (val_main_v11 (F := Ideal) fullLens i)) (funext fun a => Fin.ext ?_)
    match a with
    | ⟨0, _⟩ => rfl
    | ⟨1, _⟩ => rfl
  have hw : scatter_S32768_S16x1_S16_n_0_0_1.window (ix1 b) 0 = 0 := rfl
  rw [resultIdx?_ix1, hs, hw]
  omega

/-- The marks at token `x`: how many segments begin there. -/
theorem marks (x : Fin 32768) :
    val_main_v13 (F := Ideal) fullLens (ix1 x) = BitVec.ofNat 32 (Nat.count (fun b => 2048 * b = x.val) 16) := by
  unfold val_main_v13 Host.scatter
  refine (foldl_count _ (ix1 x) (fun n => decide (2048 * n.val = x.val)) (fun r n => ?_) _ _ 0 ?_).trans ?_
  · rw [symm1]
    have hi := markLands (n.cast (numel1 16)) x
    change _ ↔ 2048 * n.val = x.val at hi
    generalize scatter_S32768_S16x1_S16_n_0_0_1.resultIdx? (ix1 (n.cast (numel1 16))) (val_main_v11 (F := Ideal) fullLens) = o at hi ⊢
    cases o with
    | none =>
      dsimp only
      rw [if_neg fun h => nomatch hi.2 (of_decide_eq_true h)]
    | some k =>
      dsimp only
      by_cases e : 2048 * n.val = x.val
      · rw [show k = ix1 x from Option.some.inj (hi.2 e), if_pos rfl, if_pos (decide_eq_true e), val_main_v12_apply, val_main_c_4_apply]
      · rw [if_neg fun h : ix1 x = k => e (hi.1 (congrArg some h.symm)), if_neg fun h => e (of_decide_eq_true h)]
  · rw [val_main_v5_apply, val_main_c_1_apply]
  · rw [Nat.zero_add, countP_finRange _ (fun b => 2048 * b = x.val), numel1]

/-- Of the sixteen segments, those that begin at `p` or before number `p / 2048 + 1`. -/
theorem begun (p : Nat) (hp : p < 32768) : Nat.count (fun b => 2048 * b ≤ p) 16 = p / 2048 + 1 := by
  have h : ∀ r, r < 16 → (2048 * r ≤ p ↔ r < Nat.count (fun b => 2048 * b ≤ p) 16) := fun r hr =>
    lt_count_iff (Q := fun b => 2048 * b ≤ p) (fun a b hab _ hb => by have : 2048 * b ≤ p := hb; show 2048 * a ≤ p; omega) hr
  have hle : Nat.count (fun b => 2048 * b ≤ p) 16 ≤ 16 := Nat.count_le _
  have h1 := (h (p / 2048) (by omega)).1 (by omega)
  by_cases hlt : p / 2048 + 1 < 16
  · have h2 := h (p / 2048 + 1) hlt
    have : ¬ 2048 * (p / 2048 + 1) ≤ p := by omega
    omega
  · omega

/-- The running count of the marks up to token `p`, less one. -/
theorem countLessOne (p : Fin 32768) : val_main_v16 (F := Ideal) fullLens (ix1 p) = BitVec.ofNat 32 (p.val / 2048) := by
  have hp := p.isLt
  have h14 : val_main_v14 (F := Ideal) fullLens (ix1 p) = BitVec.ofNat 32 (p.val / 2048 + 1) := by
    unfold val_main_v14
    rw [← begun p.val hp, ← sum_count_eq]
    exact cumsum1 (N := 32768) (Nm1 := 32767) rfl _ (fun y => Nat.count (fun b => 2048 * b = y) 16) marks _
      (by rw [val_main_call2_call0_v0_apply, val_main_call2_call0_c_apply]) _ _ p
  rw [val_main_v16_apply, h14, val_main_v15_apply, val_main_c_5_apply]
  show BitVec.ofNat 32 (p.val / 2048 + 1) - 1#32 = _
  rw [BitVec.ofNat_add]
  exact BitVec.add_sub_cancel _ _

/-- The index word `take` reads with: the count less one, which is not negative. -/
theorem takeWord (p : Fin 32768) : val_main_call3_v5 (F := Ideal) fullLens (ix2 p (0 : Fin 1)) = BitVec.ofNat 32 (p.val / 2048) := by
  have hp := p.isLt
  rw [val_main_call3_v5_apply, show idx_main_call3_v5 (ix2 p (0 : Fin 1)) = ix1 p from eq_ix1 _, val_main_call3_v4_apply,
    val_main_call3_v1_apply, val_main_call3_v0_apply, val_main_call3_c_apply,
    wrap_of_lt _ _ (by rw [countLessOne, BitVec.toNat_ofNat]; omega), countLessOne]

/-- Every index word `take` reads with is in range, so nothing is filled in. -/
theorem takeInRange (j : S32768.Idx) : val_main_call3_v12 (F := Ideal) fullLens j = 1#1 := by
  unfold val_main_call3_v12
  refine Host.reduce_andi_one _ _ _ _ _ (by rw [val_main_call3_c_3_apply]) fun i => ?_
  obtain ⟨p, rfl⟩ : ∃ p : Fin 32768, i = ix2 p (0 : Fin 1) := ⟨i 0, by
    funext a
    match a with
    | ⟨0, _⟩ => rfl
    | ⟨1, _⟩ => exact Subsingleton.elim (α := Fin 1) _ _⟩
  have hp := p.isLt
  have hs : (BitVec.ofNat 32 (p.val / 2048)).toInt = ((p.val / 2048 : Nat) : Int) := StableHlo.Predicate.toInt_ofNat_small _ (by omega)
  have h15 : (15#32 : BitVec 32).toInt = 15 := by decide
  have h0 : (0#32 : BitVec 32).toInt = 0 := by decide
  rw [val_main_call3_v11_apply, val_main_call3_v7_apply, val_main_call3_v10_apply, takeWord, val_main_call3_v6_apply,
    val_main_call3_c_2_apply, val_main_call3_v9_apply, val_main_call3_v8_apply, val_main_call3_c_1_apply]
  have a1 : IntOp.cmpi .sge (BitVec.ofNat 32 (p.val / 2048)) 0#32 = 1#1 := by
    simp only [IntOp.cmpi, BitVec.sle, hs, h0]
    rw [decide_eq_true (by omega)]
    rfl
  have a2 : IntOp.cmpi .sle (BitVec.ofNat 32 (p.val / 2048)) 15#32 = 1#1 := by
    simp only [IntOp.cmpi, BitVec.sle, hs, h15]
    rw [decide_eq_true (by omega)]
    rfl
  rw [a1, a2]
  rfl

/-- THE SEGMENT NUMBER: the token at position `p` is in segment `p / 2048`. -/
theorem segmentWord (p : Fin 32768) : val_main_v17 (F := Ideal) fullLens (ix1 p) = BitVec.ofNat 32 (p.val / 2048) := by
  have hp := p.isLt
  rw [val_main_v17_apply, takeInRange]
  show val_main_call3_v13 (F := Ideal) fullLens (ix1 p) = _
  unfold val_main_call3_v13
  rw [gather_take1 (N := 16) (n := 32768) gather_S16_S32768x1_S32768_n_0_n_n_0_1_1 rfl rfl rfl rfl (val_main_v0 (F := Ideal))
    (val_main_call3_v5 (F := Ideal) fullLens) p ⟨p.val / 2048, by omega⟩ (takeWord p) (by norm_num), val_main_v0_apply]

end Cert.Proof.Seg
-- ==== Proof.SegmentSums.lean ====
/-
  Sums and maxima of the reference over a segment's tokens: the scatter-adds of a row per token, whose index word is the token's
  segment number, and the maximum along the tokens of an array masked by segment number.
-/
module

public import proofs.«01_k».proof.Proof.SegmentWords
public import proofs.«01_k».proof.Proof.Equation
public import Idealize.ShloMosaic.Lib.IdealHost
public import Idealize.ShloMosaic.Lib.Pointwise
public import Idealize.ShloMosaic.Lib.Pointwise.IndexBridge

@[expose] public section

noncomputable section

namespace Cert.Proof.Seg

open Cert.ReferenceIdeal Cert.ReferenceIdeal.Gen Cert.ReferenceIdeal.Read
open Idealize.ShloMosaic hiding ix0 ix1 ix2 ix3 ix4 ix5
open Idealize.ShloMosaic.ValueIdx Idealize.ShloMosaic.Routing

/-- A token of segment `b` has segment number `b`, -/
theorem token_div (b : Fin 16) (i : Fin 2048) : (Eqn.token b i).val / 2048 = b.val := by
  show (2048 * b.val + i.val) / 2048 = b.val
  omega

/-- and a token with that segment number is one of the segment's. -/
theorem eq_token (b : Fin 16) (p : Fin 32768) (h : p.val / 2048 = b.val) :
    p = Eqn.token b ⟨p.val % 2048, Nat.mod_lt _ (by decide)⟩ := by
  apply Fin.ext
  show p.val = 2048 * b.val + p.val % 2048
  omega

/-- Update `(p, y)` of a scatter of one row per token lands at `(b, z)` exactly when token `p` is in segment `b` and the
    columns agree; here the rows are one wide, -/
theorem lands_one (idx : IVec S32768x1 32) (hidx : ∀ p : Fin 32768, idx (ix2 p (0 : Fin 1)) = BitVec.ofNat 32 (p.val / 2048))
    (p : Fin 32768) (y : Fin 1) (b : Fin 16) (z : Fin 1) :
    scatter_S16x1_S32768x1_S32768x1_1_0_0_1.resultIdx? (ix2 p y) idx = some (ix2 b z) ↔ p.val / 2048 = b.val ∧ y = z := by
  have hp := p.isLt
  have hs0 : scatter_S16x1_S32768x1_S32768x1_1_0_0_1.start (ix2 p y) idx 0 = ((p.val / 2048 : Nat) : Int) := by
    rw [← StableHlo.Predicate.toInt_ofNat_small (p.val / 2048) (by omega), ← hidx p]
    unfold ScatterDims.start
    rw [dif_pos (show (0 : Fin 2) ∈ scatter_S16x1_S32768x1_S32768x1_1_0_0_1.scatterDimsToOperandDims from List.mem_singleton.2 rfl)]
    refine congrArg (fun i => BitVec.toInt (idx i)) (funext fun a => Fin.ext ?_)
    match a with
    | ⟨0, _⟩ => rfl
    | ⟨1, _⟩ => rfl
  have hs1 : scatter_S16x1_S32768x1_S32768x1_1_0_0_1.start (ix2 p y) idx 1 = 0 := by
    unfold ScatterDims.start
    rw [dif_neg (show (1 : Fin 2) ∉ scatter_S16x1_S32768x1_S32768x1_1_0_0_1.scatterDimsToOperandDims from fun h => absurd (List.mem_singleton.1 h) (by decide))]
  have hw0 : scatter_S16x1_S32768x1_S32768x1_1_0_0_1.window (ix2 p y) 0 = 0 := rfl
  have hw1 : scatter_S16x1_S32768x1_S32768x1_1_0_0_1.window (ix2 p y) 1 = y.val := rfl
  rw [Fin.ext_iff, resultIdx?_ix2, hs0, hs1, hw0, hw1]
  omega

/-- and here they are 128 wide. -/
theorem lands_row (idx : IVec S32768x1 32) (hidx : ∀ p : Fin 32768, idx (ix2 p (0 : Fin 1)) = BitVec.ofNat 32 (p.val / 2048))
    (p : Fin 32768) (y : Fin 128) (b : Fin 16) (z : Fin 128) :
    scatter_S16x128_S32768x1_S32768x128_1_0_0_1.resultIdx? (ix2 p y) idx = some (ix2 b z) ↔ p.val / 2048 = b.val ∧ y = z := by
  have hp := p.isLt
  have hs0 : scatter_S16x128_S32768x1_S32768x128_1_0_0_1.start (ix2 p y) idx 0 = ((p.val / 2048 : Nat) : Int) := by
    rw [← StableHlo.Predicate.toInt_ofNat_small (p.val / 2048) (by omega), ← hidx p]
    unfold ScatterDims.start
    rw [dif_pos (show (0 : Fin 2) ∈ scatter_S16x128_S32768x1_S32768x128_1_0_0_1.scatterDimsToOperandDims from List.mem_singleton.2 rfl)]
    refine congrArg (fun i => BitVec.toInt (idx i)) (funext fun a => Fin.ext ?_)
    match a with
    | ⟨0, _⟩ => rfl
    | ⟨1, _⟩ => rfl
  have hs1 : scatter_S16x128_S32768x1_S32768x128_1_0_0_1.start (ix2 p y) idx 1 = 0 := by
    unfold ScatterDims.start
    rw [dif_neg (show (1 : Fin 2) ∉ scatter_S16x128_S32768x1_S32768x128_1_0_0_1.scatterDimsToOperandDims from fun h => absurd (List.mem_singleton.1 h) (by decide))]
  have hw0 : scatter_S16x128_S32768x1_S32768x128_1_0_0_1.window (ix2 p y) 0 = 0 := rfl
  have hw1 : scatter_S16x128_S32768x1_S32768x128_1_0_0_1.window (ix2 p y) 1 = y.val := rfl
  rw [Fin.ext_iff, resultIdx?_ix2, hs0, hs1, hw0, hw1]
  omega

/-- The sum of the updates that land at `(b, z)` is the sum down column `z` of segment `b`'s tokens. -/
theorem sum_landing {w : ℕ} (upd : (shape2 32768 w).Idx → EReal) (P : (shape2 32768 w).Idx → Prop) [DecidablePred P] (b : Fin 16) (z : Fin w)
    (hP : ∀ (p : Fin 32768) (y : Fin w), P (ix2 p y) ↔ p.val / 2048 = b.val ∧ y = z) :
    ∑ k ∈ Finset.univ.filter P, upd k = ∑ i : Fin 2048, upd (ix2 (Eqn.token b i) z) := by
  symm
  refine Finset.sum_bij (fun i _ => ix2 (Eqn.token b i) z) ?_ ?_ ?_ ?_
  · intro i _
    exact Finset.mem_filter.2 ⟨Finset.mem_univ _, (hP _ _).2 ⟨token_div b i, rfl⟩⟩
  · intro i _ i' _ h
    have h0 : Eqn.token b i = Eqn.token b i' := congrFun h 0
    have h1 : 2048 * b.val + i.val = 2048 * b.val + i'.val := congrArg Fin.val h0
    exact Fin.ext (by omega)
  · intro k hk
    have e := ValueIdx.eq_ix2 k
    have hk' := (hP (k 0) (k 1)).1 (e ▸ (Finset.mem_filter.1 hk).2)
    refine ⟨⟨(k 0).val % 2048, Nat.mod_lt _ (by decide)⟩, Finset.mem_univ _, ?_⟩
    rw [← eq_token b (k 0) hk'.1, ← hk'.2]
    exact e.symm
  · intro i _
    rfl

/-- The reference's scatter-add of one number per token into the segments, -/
theorem scatter_one (x : FVec Ideal S16x1 .f32) (idx : IVec S32768x1 32)
    (hidx : ∀ p : Fin 32768, idx (ix2 p (0 : Fin 1)) = BitVec.ofNat 32 (p.val / 2048)) (upd : FVec Ideal S32768x1 .f32) (b : Fin 16) :
    Host.scatterAdd scatter_S16x1_S32768x1_S32768x1_1_0_0_1 x idx upd (ix2 b (0 : Fin 1))
      = (x (ix2 b (0 : Fin 1)) + ∑ i : Fin 2048, upd (ix2 (Eqn.token b i) (0 : Fin 1)) : EReal) :=
  congrArg (fun t : EReal => (x (ix2 b (0 : Fin 1)) + t : EReal))
    (sum_landing upd _ b 0 fun p y => lands_one idx hidx p y b 0)

/-- and of one row of 128 per token. -/
theorem scatter_row (x : FVec Ideal S16x128 .f32) (idx : IVec S32768x1 32)
    (hidx : ∀ p : Fin 32768, idx (ix2 p (0 : Fin 1)) = BitVec.ofNat 32 (p.val / 2048)) (upd : FVec Ideal S32768x128 .f32) (b : Fin 16) (j : Fin 128) :
    Host.scatterAdd scatter_S16x128_S32768x1_S32768x128_1_0_0_1 x idx upd (ix2 b j)
      = (x (ix2 b j) + ∑ i : Fin 2048, upd (ix2 (Eqn.token b i) j) : EReal) :=
  congrArg (fun t : EReal => (x (ix2 b j) + t : EReal)) (sum_landing upd _ b j fun p y => lands_row idx hidx p y b j)

/-- The maximum along axis 1 of a 16 by 32768 array, from an initial value. -/
theorem reduceMax_apply (v : FVec Ideal S16x32768 .f32) (c : FVec Ideal S_ .f32) (b : Fin 16) :
    Host.reduce FloatOps.maximumf v c reducesTo_S16x32768_S16_d1 h_S_ (ix1 b)
      = (Finset.univ.fold max (c (Shape.Idx.first h_S_)) fun p : Fin 32768 => v (ix2 b p) : EReal) := by
  simp only [← ix2_eq_valueIdx, ← ix1_eq_valueIdx]
  pointwise

/-- A maximum over all tokens that takes the bottom value outside segment `b` is the maximum over the segment's tokens. -/
theorem sup_masked (f g : Fin 32768 → EReal) (b : Fin 16) (hin : ∀ p : Fin 32768, p.val / 2048 = b.val → f p = g p)
    (hout : ∀ p : Fin 32768, p.val / 2048 ≠ b.val → f p = ⊥) :
    Finset.univ.fold max ⊥ f = Finset.univ.sup fun i => g (Eqn.token b i) := by
  show Finset.univ.sup f = _
  apply le_antisymm
  · refine Finset.sup_le fun p _ => ?_
    by_cases h : p.val / 2048 = b.val
    · rw [hin p h, eq_token b p h]
      exact Finset.le_sup (f := fun i => g (Eqn.token b i)) (Finset.mem_univ _)
    · rw [hout p h]
      exact bot_le
  · refine Finset.sup_le fun i _ => ?_
    rw [← hin _ (token_div b i)]
    exact Finset.le_sup (f := f) (Finset.mem_univ _)

end Cert.Proof.Seg
-- ==== Proof.ReferenceValue.lean ====
/-
  What the reference returns at lengths that are all 2048: its arrays read in order, from the logits of the tokens to the returned
  column, each at an index.
-/
module

public import proofs.«01_k».proof.Proof.SegmentSums

@[expose] public section

noncomputable section

namespace Cert.Proof.Ref

open Cert.ReferenceIdeal Cert.ReferenceIdeal.Gen Cert.ReferenceIdeal.Read Cert.Proof.Seg
open Idealize.ShloMosaic hiding ix0 ix1 ix2 ix3 ix4 ix5 eq_ix1 eq_ix2 eq_ix3
open Idealize.ShloMosaic.ValueIdx Idealize.ShloMosaic.Routing

variable (x : FVec Ideal S32768x256 .f32) (wk : FVec Ideal S256x128 .f32) (bk : FVec Ideal S128 .f32) (wv : FVec Ideal S256x128 .f32)
  (bv : FVec Ideal S128 .f32) (wo : FVec Ideal S128x1 .f32) (bo : FVec Ideal S1 .f32)

/-- The f32 pattern of minus infinity is the least extended real. -/
theorem negInf : Ideal.ofBits .f32 0xFF800000#32 = ⊥ := by
  simp [Ideal.ofBits, Ideal.ieee]

/-- The logit of token `p`. -/
def logit (p : Fin 32768) : EReal := Eqn.logit (fun k => x (ix2 p k)) (fun k j => wk (ix2 k j)) fun j => bk (ix1 j)

/-- The column array of logits. -/
theorem logits_apply (p : Fin 32768) : val_main_v27 (F := Ideal) x wk bk (ix2 p (0 : Fin 1)) = logit x wk bk p := by
  rw [val_main_v27_apply, val_main_v26_apply]
  rw [show val_main_cst (F := Ideal) (Shape.Idx.first h_S_) = (0 : EReal) from Ideal.ofBits_zero .f32]
  refine (zero_add _).trans ?_
  unfold logit Eqn.logit
  refine Finset.sum_congr rfl fun j _ => ?_
  rw [show idx_main_v26 (idx_main_v27 (ix2 p (0 : Fin 1))) j = ix2 p j from eq_ix2 _, val_main_v21_apply, val_main_v18_apply,
    val_main_v20_apply, val_main_v19_apply, show idx_main_v19 (idx_main_v20 (ix2 p j)) = ix1 j from eq_ix1 _]
  refine congrArg (fun t : EReal => (t + bk (ix1 j) : EReal)) (Finset.sum_congr rfl fun k _ => ?_)
  rw [show lidx_main_v18 (ix2 p j) k = ix2 p k from eq_ix2 _, show ridx_main_v18 (ix2 p j) k = ix2 k j from eq_ix2 _]

/-- The values array. -/
theorem values_apply (p : Fin 32768) (j : Fin 128) : val_main_v25 (F := Ideal) x wv bv (ix2 p j)
    = ((∑ k : Fin 256, x (ix2 p k) * wv (ix2 k j)) + bv (ix1 j) : EReal) := by
  rw [val_main_v25_apply, val_main_v22_apply, val_main_v24_apply, val_main_v23_apply,
    show idx_main_v23 (idx_main_v24 (ix2 p j)) = ix1 j from eq_ix1 _]
  refine congrArg (fun t : EReal => (t + bv (ix1 j) : EReal)) (Finset.sum_congr rfl fun k _ => ?_)
  rw [show lidx_main_v22 (ix2 p j) k = ix2 p k from eq_ix2 _, show ridx_main_v22 (ix2 p j) k = ix2 k j from eq_ix2 _]

/-- The segment number the denominators' sum files token `p` under. -/
theorem word48 (p : Fin 32768) : val_main_v48 (F := Ideal) fullLens (ix2 p (0 : Fin 1)) = BitVec.ofNat 32 (p.val / 2048) := by
  rw [val_main_v48_apply, show idx_main_v48 (ix2 p (0 : Fin 1)) = ix1 p from eq_ix1 _, segmentWord]

/-- The segment number the weighted sum files token `p` under. -/
theorem word61 (p : Fin 32768) : val_main_v61 (F := Ideal) fullLens (ix2 p (0 : Fin 1)) = BitVec.ofNat 32 (p.val / 2048) := by
  rw [val_main_v61_apply, show idx_main_v61 (ix2 p (0 : Fin 1)) = ix1 p from eq_ix1 _, segmentWord]

/-- The segment number at which token `p`'s maximum is read; it is never negative, so the wrap of a negative number leaves it. -/
theorem word43 (p : Fin 32768) : val_main_v43 (F := Ideal) fullLens (ix2 p (0 : Fin 1)) = BitVec.ofNat 32 (p.val / 2048) := by
  have hp := p.isLt
  rw [val_main_v43_apply, show idx_main_v43 (ix2 p (0 : Fin 1)) = ix1 p from eq_ix1 _, val_main_v42_apply, val_main_v39_apply,
    val_main_v38_apply, val_main_c_8_apply, wrap_of_lt _ _ (by rw [segmentWord, BitVec.toNat_ofNat]; omega), segmentWord]

/-- The segment number at which token `p`'s denominator is read. -/
theorem word55 (p : Fin 32768) : val_main_v55 (F := Ideal) fullLens (ix2 p (0 : Fin 1)) = BitVec.ofNat 32 (p.val / 2048) := by
  have hp := p.isLt
  rw [val_main_v55_apply, show idx_main_v55 (ix2 p (0 : Fin 1)) = ix1 p from eq_ix1 _, val_main_v54_apply, val_main_v51_apply,
    val_main_v50_apply, val_main_c_11_apply, wrap_of_lt _ _ (by rw [segmentWord, BitVec.toNat_ofNat]; omega), segmentWord]

/-- The logits masked by segment: token `p`'s in its own segment's row, the bottom value in the others. -/
theorem masked_apply (b : Fin 16) (p : Fin 32768) : val_main_v35 (F := Ideal) x fullLens wk bk (ix2 b p)
    = if p.val / 2048 = b.val then logit x wk bk p else ⊥ := by
  have hp := p.isLt
  have hb := b.isLt
  rw [val_main_v35_apply, val_main_v33_apply, val_main_v31_apply, val_main_v28_apply, val_main_v32_apply, val_main_v30_apply,
    val_main_v29_apply, show idx_main_v28 (idx_main_v31 (ix2 b p)) = ix1 p from eq_ix1 _, segmentWord,
    val_main_call4_v1_apply, val_main_v34_apply, val_main_call4_v2_apply,
    show idx_main_v34 (idx_main_call4_v1 (ix2 b p)) = ix2 p (0 : Fin 1) from eq_ix2 _, logits_apply,
    show val_main_call4_v0 (F := Ideal) (idx_main_call4_v2 (ix2 b p)) = (⊥ : EReal) from negInf,
    show (idx_main_v30 (idx_main_v32 (ix2 b p)) 0).val = b.val from rfl,
    WordCmp.cmpi_eq_ofNat (by omega) (by omega), WordCmp.select_ofBool]
  simp only [decide_eq_true_eq]

/-- The maximum of a segment's logits. -/
theorem maxima_apply (b : Fin 16) : val_main_v37 (F := Ideal) x fullLens wk bk (ix2 b (0 : Fin 1))
    = (Finset.univ.sup fun i => logit x wk bk (Eqn.token b i) : EReal) := by
  rw [val_main_v37_apply, show idx_main_v37 (ix2 b (0 : Fin 1)) = ix1 b from eq_ix1 _]
  unfold val_main_v36
  rw [reduceMax_apply]
  refine Eq.trans ?_ (sup_masked (fun p => val_main_v35 (F := Ideal) x fullLens wk bk (ix2 b p)) (logit x wk bk) b
    (fun p h => (masked_apply x wk bk b p).trans (if_pos h)) (fun p h => (masked_apply x wk bk b p).trans (if_neg h)))
  exact congrArg (fun e : EReal => Finset.univ.fold max e _) negInf

/-- The exponential of a logit less its segment's maximum. -/
theorem exps_apply (b : Fin 16) (i : Fin 2048) : val_main_v46 (F := Ideal) x fullLens wk bk (ix2 (Eqn.token b i) (0 : Fin 1))
    = Ideal.exp (logit x wk bk (Eqn.token b i) - Finset.univ.sup fun i' => logit x wk bk (Eqn.token b i')) := by
  rw [val_main_v46_apply, val_main_v45_apply, logits_apply]
  unfold val_main_v44
  rw [gather_row _ rfl rfl rfl rfl rfl _ _ (Eqn.token b i) (0 : Fin 1) b (by rw [word43, token_div]) (by decide), maxima_apply]
  rfl

/-- The sum of a segment's exponentials. -/
theorem totals_apply (b : Fin 16) : val_main_v49 (F := Ideal) x fullLens wk bk (ix2 b (0 : Fin 1))
    = (∑ i, Ideal.exp (logit x wk bk (Eqn.token b i) - Finset.univ.sup fun i' => logit x wk bk (Eqn.token b i')) : EReal) := by
  unfold val_main_v49
  rw [scatter_one _ _ word48, val_main_v47_apply]
  simp only [exps_apply]
  refine (congrArg (fun t : EReal => t + _) (show val_main_cst_10 (F := Ideal) _ = (0 : EReal) from ?_)).trans (zero_add _)
  exact Ideal.ofBits_zero .f32

/-- The softmax weight of a segment's token. -/
theorem weights_apply (b : Fin 16) (i : Fin 2048) : val_main_v57 (F := Ideal) x fullLens wk bk (ix2 (Eqn.token b i) (0 : Fin 1))
    = Eqn.weight (fun i => logit x wk bk (Eqn.token b i)) i := by
  rw [val_main_v57_apply, exps_apply]
  unfold val_main_v56
  rw [gather_row _ rfl rfl rfl rfl rfl _ _ (Eqn.token b i) (0 : Fin 1) b (by rw [word55, token_div]) (by decide), totals_apply]
  rfl

/-- A segment's pooled row: its values, weighted and summed. -/
theorem pooled_apply (b : Fin 16) (j : Fin 128) : val_main_v62 (F := Ideal) x fullLens wk bk wv bv (ix2 b j)
    = (∑ i, Eqn.weight (fun i => logit x wk bk (Eqn.token b i)) i
        * ((∑ k : Fin 256, x (ix2 (Eqn.token b i) k) * wv (ix2 k j)) + bv (ix1 j)) : EReal) := by
  unfold val_main_v62
  rw [scatter_row _ _ word61, val_main_v60_apply]
  refine (congrArg₂ (fun t s : EReal => t + s) (show val_main_cst_13 (F := Ideal) _ = (0 : EReal) from Ideal.ofBits_zero .f32)
    (Finset.sum_congr rfl fun i _ => ?_)).trans (zero_add _)
  rw [val_main_v59_apply, val_main_v58_apply,
    show idx_main_v58 (ix2 (Eqn.token b i) j) = ix2 (Eqn.token b i) (0 : Fin 1) from eq_ix2 _, weights_apply, values_apply]
  rfl

/-- The returned column: row `b` is the pooled row through the output weights, and the output bias. -/
theorem result_apply (b : Fin 16) : val_main_v66 (F := Ideal) x fullLens wk bk wv bv wo bo (ix2 b (0 : Fin 1))
    = ((∑ j : Fin 128, (∑ i, Eqn.weight (fun i => logit x wk bk (Eqn.token b i)) i
        * ((∑ k : Fin 256, x (ix2 (Eqn.token b i) k) * wv (ix2 k j)) + bv (ix1 j))) * wo (ix2 j (0 : Fin 1))) + bo (ix1 0) : EReal) := by
  rw [val_main_v66_apply, val_main_v63_apply, val_main_v65_apply, val_main_v64_apply,
    show idx_main_v64 (idx_main_v65 (ix2 b (0 : Fin 1))) = ix1 0 from eq_ix1 _]
  refine congrArg (fun t : EReal => (t + bo (ix1 0) : EReal)) (Finset.sum_congr rfl fun j _ => ?_)
  rw [show lidx_main_v63 (ix2 b (0 : Fin 1)) j = ix2 b j from eq_ix2 _,
    show ridx_main_v63 (ix2 b (0 : Fin 1)) j = ix2 j (0 : Fin 1) from eq_ix2 _, pooled_apply]

end Cert.Proof.Ref
-- ==== Proof.Precondition.lean ====
/-
  What the precondition says of the arguments: every length is 2048, and the tokens, the key weights and key bias, the value weights
  and the output weights are arrays of real numbers. The value bias and the output bias may be anything.
-/
module

public import proofs.«01_k».proof.Proof.Gen.Pre_full_and_finite
public import Idealize.ShloMosaic.Lib.ReduceAll
public import Idealize.ShloMosaic.Lib.WordCmp
public import Idealize.ShloMosaic.PureOps.Ideal.Laws

@[expose] public section

noncomputable section

namespace Cert.Proof.Pre

open Cert.Pre_full_and_finite Idealize.ShloMosaic

/-- The f32 pattern of infinity is the greatest extended real. -/
theorem posInf : Ideal.ofBits .f32 0x7F800000#32 = ⊤ := by
  simp [Ideal.ofBits, Ideal.ieee]

/-- Two bits whose `and` is 1 are both 1. -/
theorem and_one {s : Shape} (x y : IVec s 1) (i : s.Idx) (h : andi x y i = 1#1) : x i = 1#1 ∧ y i = 1#1 :=
  (by decide : ∀ a b : BitVec 1, a &&& b = 1#1 → a = 1#1 ∧ b = 1#1) (x i) (y i) h

/-- A value whose magnitude compares below infinity is a real number. -/
theorem real_of_cmp (a : EReal) (h : FloatOps.cmpf (F := Ideal) (φ := .f32) .olt (max a (-a) : EReal) (⊤ : EReal) = 1#1) : ∃ r : ℝ, a = (r : EReal) := by
  have h' : max a (-a) < ⊤ := by
    by_contra hn
    have : FloatOps.cmpf (F := Ideal) (φ := .f32) .olt (max a (-a) : EReal) (⊤ : EReal) = 0#1 := by
      simp [FloatOps.cmpf, Ideal.cmp, hn]
    rw [this] at h
    exact absurd h (by decide)
  induction a using EReal.rec with
  | bot => simp at h'
  | top => simp at h'
  | coe r => exact ⟨r, rfl⟩

/-- An array whose magnitudes all compare below infinity is an array of reals. -/
theorem reals_of_all {s : Shape} {axes : List (Fin s.rank)} (v : FVec Ideal s .f32) (bc : S_.BroadcastsInDim s (![] : Fin 0 → Fin s.rank))
    (hr : s.ReducesTo axes S_) (c : IVec S_ 1) (j : S_.Idx)
    (h : Host.reduce IntOp.andi (cmpf .olt (Host.absf v) (broadcastInDim s ![] bc (constant (F := Ideal) S_ .f32 0x7F800000#32))) c hr
      Facts.h_S_ j = 1#1) : ∃ r : s.Idx → ℝ, v = fun i => (r i : EReal) := by
  have hs : Subsingleton S_.Idx := ⟨fun a b => funext fun k => k.elim0⟩
  have hall : ∀ i, ∃ r : ℝ, v i = (r : EReal) := fun i => by
    have hi := Host.reduce_andi_all _ _ hr _ j h i
    refine real_of_cmp (v i) ?_
    rw [← posInf]
    exact hi
  choose r hr' using hall
  exact ⟨r, funext hr'⟩

/-- What the precondition says. -/
theorem unpack (x : FVec Ideal S32768x256 .f32) (lens : IVec S16 32) (wk : FVec Ideal S256x128 .f32) (bk : FVec Ideal S128 .f32)
    (wv : FVec Ideal S256x128 .f32) (bv : FVec Ideal S128 .f32) (wo : FVec Ideal S128x1 .f32) (bo : FVec Ideal S1 .f32)
    (h : fn (F := Ideal) x lens wk bk wv bv wo bo = fun _ => 1#1) :
    lens = (fun _ => 2048#32) ∧ (∃ r : S32768x256.Idx → ℝ, x = fun i => (r i : EReal)) ∧ (∃ r : S256x128.Idx → ℝ, wk = fun i => (r i : EReal))
      ∧ (∃ r : S128.Idx → ℝ, bk = fun i => (r i : EReal)) ∧ (∃ r : S256x128.Idx → ℝ, wv = fun i => (r i : EReal))
      ∧ ∃ r : S128x1.Idx → ℝ, wo = fun i => (r i : EReal) := by
  let j : S_.Idx := fun k => k.elim0
  have hs : Subsingleton S_.Idx := ⟨fun a b => funext fun k => k.elim0⟩
  have h0 := congrFun h j
  unfold fn fn_part1 at h0
  dsimp only at h0
  obtain ⟨h1, hwo⟩ := and_one _ _ j h0
  obtain ⟨h2, hwv⟩ := and_one _ _ j h1
  obtain ⟨h3, hbk⟩ := and_one _ _ j h2
  obtain ⟨h4, hwk⟩ := and_one _ _ j h3
  obtain ⟨hl, hx⟩ := and_one _ _ j h4
  refine ⟨funext fun i => ?_, reals_of_all x _ _ _ j hx, reals_of_all wk _ _ _ j hwk, reals_of_all bk _ _ _ j hbk,
    reals_of_all wv _ _ _ j hwv, reals_of_all wo _ _ _ j hwo⟩
  have hi : IntOp.cmpi .eq (lens i) 2048#32 = 1#1 := Host.reduce_andi_all _ _ _ _ j hl i
  rw [WordCmp.cmpi_eq_eq] at hi
  by_contra hn
  rw [decide_eq_false hn] at hi
  exact absurd hi (by decide)

end Cert.Proof.Pre
-- ==== Proof.Tie.lean ====
/-
  The kernel's column and the reference's result are the same numbers when the precondition holds.
-/
module

public import proofs.«01_k».proof.Proof.KernelArray
public import proofs.«01_k».proof.Proof.ReferenceValue
public import proofs.«01_k».proof.Proof.Precondition
public import Idealize.ShloMosaic.Lib.Pointwise.IndexBridge

@[expose] public section

noncomputable section

namespace Cert.Proof.Tie

open Cert.Pre_full_and_finite Cert.ReferenceIdeal.Read
open Idealize.ShloMosaic hiding ix0 ix1 ix2 ix3 ix4 ix5 eq_ix1 eq_ix2 eq_ix3
open Idealize.ShloMosaic.ValueIdx

/-- On arguments the precondition admits, entry `i` of the reference's result is the pooled value of segment `i` that the kernel computes. -/
theorem reference_eq_column (x : FVec Ideal S32768x256 .f32) (lens : IVec S16 32) (wk : FVec Ideal S256x128 .f32) (bk : FVec Ideal S128 .f32)
    (wv : FVec Ideal S256x128 .f32) (bv : FVec Ideal S128 .f32) (wo : FVec Ideal S128x1 .f32) (bo : FVec Ideal S1 .f32)
    (h : fn (F := Ideal) x lens wk bk wv bv wo bo = fun _ => 1#1) :
    val_main_v66 (F := Ideal) x lens wk bk wv bv wo bo = fun i => Ker.column x wk wv bv wo bo (i 0) := by
  obtain ⟨rfl, ⟨x', rfl⟩, ⟨wk', rfl⟩, ⟨bk', rfl⟩, ⟨wv', rfl⟩, ⟨wo', rfl⟩⟩ := Pre.unpack x lens wk bk wv bv wo bo h
  funext i
  obtain ⟨b, rfl⟩ : ∃ b : Fin 16, i = ix2 b (0 : Fin 1) := ⟨i 0, by
    rw [eq_ix2 i]
    congr 1
    exact (Subsingleton.elim (α := Fin 1) _ _)⟩
  refine (Ref.result_apply _ _ _ _ _ _ _ b).trans ?_
  simp only [Ref.logit, Ker.column, ix2_eq_valueIdx, ix1_eq_valueIdx]
  exact Eqn.pool_eq (fun i k => x' (ix2 (Eqn.token b i) k)) (fun k j => wk' (ix2 k j)) (fun j => bk' (ix1 j)) (fun k j => wv' (ix2 k j))
    (fun j => bv (ix1 j)) (fun j => wo' (ix2 j 0)) (bo (ix1 0))

end Cert.Proof.Tie
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_full_and_finite
public import proofs.«01_k».proof.Proof.KernelArray
public import proofs.«01_k».proof.Proof.Tie
public import Idealize.ShloMosaic.Adequacy
public import Idealize.ShloMosaic.Init

@[expose] public section

noncomputable section

namespace Cert.Proof

open Idealize.ShloMosaic Idealize.SL.Sem

/-- The reference terminates, faults nowhere, and leaves its arguments and every counter as they were, for every initial memory: its
    run names each argument, and it declares no counter. -/
theorem reference_frame : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- On arguments the precondition admits, the kernel and the reference end with the same sixteen pooled values, and both leave their
    arguments as they were. -/
theorem same_values : Cert.algebraic_KernelIdeal_ReferenceIdeal_pre_full_and_finite := by
  intro m g m' g' hpre hargs
  refine ⟨fun c => (fun i => Ker.column (Ker.ax m c) (Ker.awk m c) (Ker.awv m c) (Ker.abv m c) (Ker.awo m c) (Ker.abo m c) (i 0)),
    Ker.run m g, ?_⟩
  refine (θ_run Cert.ReferenceIdeal.defs _ _).mono (fun r h c => ⟨(h c).1.trans ?_, (h c).2⟩)
    (Cert.ReferenceIdeal.Value.run (F := Ideal) m' g')
  obtain ⟨e0, e1, e2, e3, e4, e5, e6, e7⟩ := hargs c
  refine (Cert.ReferenceIdeal.Read.val_main_v66_eq (F := Ideal) (StableHlo.launchContents m' c)).trans ?_
  refine Eq.trans ?_ (Tie.reference_eq_column _ _ _ _ _ _ _ _ (hpre c))
  change Cert.ReferenceIdeal.Read.val_main_v66 (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7)) = _
  rw [e0, e1, e2, e3, e4, e5, e6, e7]

/-- The five claims: the frame of the kernel as printed, of the idealized kernel and of the reference; that idealizing rewrote nothing; and that
    the idealized kernel computes what the reference computes. -/
theorem claim : Cert.Claim := ⟨Cert.Kernel.Gen.facts, Cert.KernelIdeal.Gen.facts, Cert.ReferenceIdeal.Gen.facts, Cert.Pre_full_and_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ True.intro, trivial, same_values⟩

end Cert.Proof

end
